-- ==== Defs.lean ====
def Pre_Kernel [hPre_first_id_in_range : Cert.Pre_first_id_in_range.Facts] (m : (ℓ : Loc Cert.Kernel.nD Cert.Kernel.τ Cert.Kernel.sig) → Buf (Elt Bits) ℓ) : Prop :=
  ∀ c : Dev Cert.Kernel.nD,
    (Cert.Pre_first_id_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_first_id_in_range : Cert.Pre_first_id_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_first_id_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_id_in_range [hPre_first_id_in_range : Cert.Pre_first_id_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_id_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_first_id_in_range [hPre_first_id_in_range : Cert.Pre_first_id_in_range.Facts] (m : (ℓ : Loc Cert.Reference.nD Cert.Reference.τ Cert.Reference.sig) → Buf (Elt Bits) ℓ) : Prop :=
  ∀ c : Dev Cert.Reference.nD,
    (Cert.Pre_first_id_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_first_id_in_range : Cert.Pre_first_id_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_first_id_in_range : Cert.Pre_first_id_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_id_in_range [hReferenceIdeal : Cert.ReferenceIdeal.Facts] [hPre_first_id_in_range : Cert.Pre_first_id_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_id_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_first_id_in_range [hReference : Cert.Reference.Facts] [hPre_first_id_in_range : Cert.Pre_first_id_in_range.Facts] : Prop :=
  ∀ (m : (ℓ : Loc Cert.Reference.nD Cert.Reference.τ Cert.Reference.sig) → Buf (Elt Bits) ℓ) (g : Dev Cert.Reference.nD → PrngReg), Pre_Reference_first_id_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_first_id_in_range : Cert.Pre_first_id_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_first_id_in_range : Cert.Pre_first_id_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_first_id_in_range : Cert.Pre_first_id_in_range.Facts),
    quiescent_Kernel (hKernel := hKernel) (hPre_first_id_in_range := hPre_first_id_in_range)
    ∧ quiescent_KernelIdeal (hKernelIdeal := hKernelIdeal) (hPre_first_id_in_range := hPre_first_id_in_range)
    ∧ quiescent_ReferenceIdeal (hReferenceIdeal := hReferenceIdeal)
    ∧ quiescent_ReferenceIdeal_pre_first_id_in_range (hReferenceIdeal := hReferenceIdeal) (hPre_first_id_in_range := hPre_first_id_in_range)
    ∧ quiescent_Reference (hReference := hReference)
    ∧ quiescent_Reference_pre_first_id_in_range (hReference := hReference) (hPre_first_id_in_range := hPre_first_id_in_range)
    ∧ preserves_Kernel_KernelIdeal
    ∧ algebraic_KernelIdeal_ReferenceIdeal (hKernelIdeal := hKernelIdeal) (hReferenceIdeal := hReferenceIdeal) (hPre_first_id_in_range := hPre_first_id_in_range)
    ∧ bitexact_Kernel_Reference (hKernel := hKernel) (hReference := hReference) (hPre_first_id_in_range := hPre_first_id_in_range)
-- ==== Pre_first_id_in_range.lean ====
abbrev S4096x50 : Shape := ⟨2, ![4096, 50]⟩
abbrev S1000001x16 : Shape := ⟨2, ![1000001, 16]⟩
abbrev S1x1 : Shape := ⟨2, ![1, 1]⟩
abbrev S_ : Shape := ⟨0, ![]⟩

class Facts : Prop where
  slices_S4096x50_S1x1_0_0 : S4096x50.Slices ![0, 0] S1x1
  shapeCasts_S1x1_S_ : S1x1.ShapeCasts S_

variable [Facts]

def fn {F : FTy → Type} [FloatOps F] (main_arg0 : IVec S4096x50 32) (main_arg1 : FVec F S1000001x16 .f32) : IVec S_ 1 :=
  let main_v0 : IVec S1x1 32 := (extractStridedSlice S1x1 ![0, 0] · slices_S4096x50_S1x1_0_0) main_arg0
  let main_v1 : IVec S_ 32 := shapeCast S_ main_v0 shapeCasts_S1x1_S_
  let main_c : IVec S_ 32 := constantI S_ 32 0#32
  let main_v2 : IVec S_ 1 := cmpi .sge main_v1 main_c
  let main_v3 : IVec S1x1 32 := (extractStridedSlice S1x1 ![0, 0] · slices_S4096x50_S1x1_0_0) main_arg0
  let main_v4 : IVec S_ 32 := shapeCast S_ main_v3 shapeCasts_S1x1_S_
  let main_c_0 : IVec S_ 32 := constantI S_ 32 1000000#32
  let main_v5 : IVec S_ 1 := cmpi .sle main_v4 main_c_0
  let main_v6 : IVec S_ 1 := andi main_v2 main_v5
  main_v6
-- ==== Kernel.lean ====
abbrev S4096x50 : Shape := ⟨2, ![4096, 50]⟩
abbrev S1000001x16 : Shape := ⟨2, ![1000001, 16]⟩
abbrev S16x1000001 : Shape := ⟨2, ![16, 1000001]⟩
abbrev S_ : Shape := ⟨0, ![]⟩
abbrev S16x1000064 : Shape := ⟨2, ![16, 1000064]⟩
abbrev S50x4096 : Shape := ⟨2, ![50, 4096]⟩
abbrev S16 : Shape := ⟨1, ![16]⟩
abbrev S8x128 : Shape := ⟨2, ![8, 128]⟩
abbrev S1x16 : Shape := ⟨2, ![1, 16]⟩
abbrev S1 : Shape := ⟨1, ![1]⟩
abbrev S1x1 : Shape := ⟨2, ![1, 1]⟩

abbrev nBuf : Table → Nat
  | .hbm => 7
  | .local .scScalar .smem => 4
  | _ => 0

abbrev bufTy : (tb : Table) → Fin (nBuf tb) → BufTy
  | .hbm, ⟨0, _⟩ => ⟨S4096x50, .i32⟩
  | .hbm, ⟨1, _⟩ => ⟨S1000001x16, .f32⟩
  | .hbm, ⟨2, _⟩ => ⟨S16x1000001, .f32⟩
  | .hbm, ⟨3, _⟩ => ⟨S_, .f32⟩
  | .hbm, ⟨4, _⟩ => ⟨S16x1000064, .f32⟩
  | .hbm, ⟨5, _⟩ => ⟨S50x4096, .i32⟩
  | .hbm, ⟨6, _⟩ => ⟨S16, .f32⟩
  | .local .scScalar .smem, ⟨0, _⟩ => ⟨S16, .i32⟩
  | .local .scScalar .smem, ⟨1, _⟩ => ⟨S8x128, .f32⟩
  | .local .scScalar .smem, ⟨2, _⟩ => ⟨S8x128, .f32⟩
  | .local .scScalar .smem, ⟨3, _⟩ => ⟨S16, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scs : Ref sig .scScalar := ⟨.hbm, 4, rfl⟩
abbrev main_v2_scs : Ref sig .scScalar := ⟨.hbm, 5, rfl⟩
abbrev main_v3_scs : Ref sig .scScalar := ⟨.hbm, 6, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch5 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_mult1 (v1 : BitVec 32) : BitVec 32 :=
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  v19

def k0_off1 (v1 : BitVec 32) : Fin 2 → Nat :=
  let c0_i32_7 : BitVec 32 := 0#32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  ![0, v20.toNat]
def k0_off2 (v1 : BitVec 32) : Fin 2 → Nat :=
  let c8_i32 : BitVec 32 := 8#32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  ![8, v20.toNat]
def k0_off3 (v1 : BitVec 32) : Fin 2 → Nat :=
  let c0_i32_9 : BitVec 32 := 0#32
  let v25 : Index := Scalar.indexCast c0_i32_9
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v26 : Index := Scalar.indexCast v21
  ![0, v26.toNat]
def k0_off4 (v1 : BitVec 32) : Fin 2 → Nat :=
  let c1_i32_11 : BitVec 32 := 1#32
  let v30 : Index := Scalar.indexCast c1_i32_11
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v31 : Index := Scalar.indexCast v21
  ![1, v31.toNat]
def k0_off5 (v1 : BitVec 32) : Fin 2 → Nat :=
  let c2_i32 : BitVec 32 := 2#32
  let v35 : Index := Scalar.indexCast c2_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v36 : Index := Scalar.indexCast v21
  ![2, v36.toNat]
def k0_off6 (v1 : BitVec 32) : Fin 2 → Nat :=
  let c3_i32 : BitVec 32 := 3#32
  let v40 : Index := Scalar.indexCast c3_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v41 : Index := Scalar.indexCast v21
  ![3, v41.toNat]
def k0_off7 (v1 : BitVec 32) : Fin 2 → Nat :=
  let c4_i32 : BitVec 32 := 4#32
  let v45 : Index := Scalar.indexCast c4_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v46 : Index := Scalar.indexCast v21
  ![4, v46.toNat]
def k0_off8 (v1 : BitVec 32) : Fin 2 → Nat :=
  let c5_i32 : BitVec 32 := 5#32
  let v50 : Index := Scalar.indexCast c5_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v51 : Index := Scalar.indexCast v21
  ![5, v51.toNat]
def k0_off9 (v1 : BitVec 32) : Fin 2 → Nat :=
  let c6_i32 : BitVec 32 := 6#32
  let v55 : Index := Scalar.indexCast c6_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v56 : Index := Scalar.indexCast v21
  ![6, v56.toNat]
def k0_off10 (v1 : BitVec 32) : Fin 2 → Nat :=
  let c7_i32 : BitVec 32 := 7#32
  let v60 : Index := Scalar.indexCast c7_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c128_i32 : BitVec 32 := 128#32
  let c0_i32_3 : BitVec 32 := 0#32
  let v8 : BitVec 1 := Scalar.cmpi .sgt c128_i32 c0_i32_3
  let v9 : BitVec 32 := Scalar.extui v8
  let c0_i32_4 : BitVec 32 := 0#32
  let v10 : BitVec 1 := Scalar.cmpi .slt c128_i32 c0_i32_4
  let v11 : BitVec 32 := Scalar.extui v10
  let v12 : BitVec 32 := Scalar.subi v9 v11
  let v13 : BitVec 1 := Scalar.cmpi .ne v7 v12
  let v14 : BitVec 32 := Scalar.remsi v1 c128_i32
  let c0_i32_5 : BitVec 32 := 0#32
  let v15 : BitVec 1 := Scalar.cmpi .ne v14 c0_i32_5
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_6 : BitVec 32 := 128#32
  let v19 : BitVec 32 := Scalar.muli v18 c128_i32_6
  let v20 : BitVec 32 := v19
  let v21 : BitVec 32 := Scalar.subi v1 v20
  let v61 : Index := Scalar.indexCast v21
  ![7, v61.toNat]

def k0_chk1 (v1 : BitVec 32) : Prop :=
  (128 ∣ (k0_mult1 v1).toNat) ∧
  (∀ a, (k0_off1 v1) a + S8x128.size a ≤ S16x1000064.size a) ∧
  (∀ a, (k0_off2 v1) a + S8x128.size a ≤ S16x1000064.size a) ∧
  (∀ a, (k0_off3 v1) a + S1x1.size a ≤ S8x128.size a) ∧
  (∀ a, (k0_off4 v1) a + S1x1.size a ≤ S8x128.size a) ∧
  (∀ a, (k0_off5 v1) a + S1x1.size a ≤ S8x128.size a) ∧
  (∀ a, (k0_off6 v1) a + S1x1.size a ≤ S8x128.size a) ∧
  (∀ a, (k0_off7 v1) a + S1x1.size a ≤ S8x128.size a) ∧
  (∀ a, (k0_off8 v1) a + S1x1.size a ≤ S8x128.size a) ∧
  (∀ a, (k0_off9 v1) a + S1x1.size a ≤ S8x128.size a) ∧
  (∀ a, (k0_off10 v1) a + S1x1.size a ≤ S8x128.size a)
theorem k0_mult1_dvd : ∀ (v1 : BitVec 32) (k0_hw1 : k0_chk1 v1), 128 ∣ (k0_mult1 v1).toNat := fun v1 k0_hw1 => k0_hw1.1
theorem k0_off1_inb : ∀ (v1 : BitVec 32) (k0_hw1 : k0_chk1 v1), ∀ a, (k0_off1 v1) a + S8x128.size a ≤ S16x1000064.size a := fun v1 k0_hw1 => k0_hw1.2.1
theorem k0_off2_inb : ∀ (v1 : BitVec 32) (k0_hw1 : k0_chk1 v1), ∀ a, (k0_off2 v1) a + S8x128.size a ≤ S16x1000064.size a := fun v1 k0_hw1 => k0_hw1.2.2.1
theorem k0_off3_inb : ∀ (v1 : BitVec 32) (k0_hw1 : k0_chk1 v1), ∀ a, (k0_off3 v1) a + S1x1.size a ≤ S8x128.size a := fun v1 k0_hw1 => k0_hw1.2.2.2.1
theorem k0_off4_inb : ∀ (v1 : BitVec 32) (k0_hw1 : k0_chk1 v1), ∀ a, (k0_off4 v1) a + S1x1.size a ≤ S8x128.size a := fun v1 k0_hw1 => k0_hw1.2.2.2.2.1
theorem k0_off5_inb : ∀ (v1 : BitVec 32) (k0_hw1 : k0_chk1 v1), ∀ a, (k0_off5 v1) a + S1x1.size a ≤ S8x128.size a := fun v1 k0_hw1 => k0_hw1.2.2.2.2.2.1
theorem k0_off6_inb : ∀ (v1 : BitVec 32) (k0_hw1 : k0_chk1 v1), ∀ a, (k0_off6 v1) a + S1x1.size a ≤ S8x128.size a := fun v1 k0_hw1 => k0_hw1.2.2.2.2.2.2.1
theorem k0_off7_inb : ∀ (v1 : BitVec 32) (k0_hw1 : k0_chk1 v1), ∀ a, (k0_off7 v1) a + S1x1.size a ≤ S8x128.size a := fun v1 k0_hw1 => k0_hw1.2.2.2.2.2.2.2.1
theorem k0_off8_inb : ∀ (v1 : BitVec 32) (k0_hw1 : k0_chk1 v1), ∀ a, (k0_off8 v1) a + S1x1.size a ≤ S8x128.size a := fun v1 k0_hw1 => k0_hw1.2.2.2.2.2.2.2.2.1
theorem k0_off9_inb : ∀ (v1 : BitVec 32) (k0_hw1 : k0_chk1 v1), ∀ a, (k0_off9 v1) a + S1x1.size a ≤ S8x128.size a := fun v1 k0_hw1 => k0_hw1.2.2.2.2.2.2.2.2.2.1
theorem k0_off10_inb : ∀ (v1 : BitVec 32) (k0_hw1 : k0_chk1 v1), ∀ a, (k0_off10 v1) a + S1x1.size a ≤ S8x128.size a := fun v1 k0_hw1 => k0_hw1.2.2.2.2.2.2.2.2.2.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4096x50 : Shape := ⟨2, ![4096, 50]⟩
abbrev S1000001x16 : Shape := ⟨2, ![1000001, 16]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x16 : Shape := ⟨3, ![4096, 50, 16]⟩
abbrev S1x1x16 : Shape := ⟨3, ![1, 1, 16]⟩
abbrev S16 : Shape := ⟨1, ![16]⟩

abbrev nBuf : Space → Nat
  | .hbm => 27
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000001x16, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x16, .f32⟩
  | .hbm, ⟨21, _⟩ => ⟨S4096x50x16, .i1⟩
  | .hbm, ⟨22, _⟩ => ⟨S_, .f32⟩
  | .hbm, ⟨23, _⟩ => ⟨S4096x50x16, .f32⟩
  | .hbm, ⟨24, _⟩ => ⟨S4096x50x16, .f32⟩
  | .hbm, ⟨25, _⟩ => ⟨S1x1x16, .f32⟩
  | .hbm, ⟨26, _⟩ => ⟨S16, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Index.lean ====
/-
  The word arithmetic of the lookup. For an index `v` of the table, `0 ≤ v ≤ 1000000`, the sequencer computes the first
  column of the 128-column window that holds column `v`, `128 · ⌊v / 128⌋`, by a signed floor division, and `v`'s place
  in that window, `v mod 128`. The window lies inside the padded table and the place inside the window, which is all
  that the kernel's side condition asks.
-/
module

public import proofs.«01_k».proof.Proof.Gen.KernelIdeal

@[expose] public section

namespace Cert.Proof.Lookup

open Cert.KernelIdeal Idealize.ShloMosaic

/-- A bit-level word whose value is at most 1000000 has its sign bit clear. -/
theorem msb_small {v : BitVec 32} (hv : v.toNat ≤ 1000000) : v.msb = false := by
  rw [BitVec.msb_eq_decide]; simp; omega

/-- Signed division of a small word by 128 is the division of its value. -/
theorem sdiv_small {v : BitVec 32} (hv : v.toNat ≤ 1000000) : (v.sdiv 128#32).toNat = v.toNat / 128 := by
  rw [BitVec.sdiv_eq, msb_small hv]
  simp [show (128#32).msb = false from rfl]

/-- For a small word the printed floor division's correction never fires: the window's first column is the quotient
    times 128. -/
theorem mult_eq {v : BitVec 32} (hv : v.toNat ≤ 1000000) : k0_mult1 v = v.sdiv 128#32 * 128#32 := by
  rcases Nat.eq_zero_or_pos v.toNat with h0 | h0
  · obtain rfl : v = 0#32 := BitVec.eq_of_toNat_eq (by simpa using h0)
    decide
  · have hs : (0#32).slt v = true := by
      rw [BitVec.slt_eq_ult_of_msb_eq (by rw [msb_small hv]; rfl)]
      simpa [BitVec.ult] using h0
    have hs' : v.slt 0#32 = false := by
      rw [BitVec.slt_zero_eq_msb, msb_small hv]
    have hc : ¬ IntOp.SDivCorner v 128#32 := by
      rintro (h | ⟨-, h⟩) <;> revert h <;> decide
    unfold k0_mult1
    simp only [Scalar.cmpi, IntOp.cmpi, hs, hs', Scalar.divsi, IntOp.divsi, if_neg hc, Scalar.muli, IntOp.muli]
    rw [show (Scalar.subi (Scalar.extui (BitVec.ofBool true)) (Scalar.extui (BitVec.ofBool false)) !=
        Scalar.subi (Scalar.extui (BitVec.ofBool ((0#32).slt 128#32))) (Scalar.extui (BitVec.ofBool ((128#32).slt 0#32))))
        = false by decide]
    simp [Scalar.andi, IntOp.andi, Scalar.select]

/-- The window's first column. -/
theorem mult_toNat {v : BitVec 32} (hv : v.toNat ≤ 1000000) : (k0_mult1 v).toNat = v.toNat / 128 * 128 := by
  rw [mult_eq hv, BitVec.toNat_mul, sdiv_small hv]
  have : (128#32).toNat = 128 := rfl
  rw [this]; omega

/-- The index's place in its window. -/
theorem place_toNat {v : BitVec 32} (hv : v.toNat ≤ 1000000) : (v - k0_mult1 v).toNat = v.toNat % 128 := by
  rw [BitVec.toNat_sub, mult_toNat hv]; omega

/-- The two windows' offsets: rows 0 to 7 and rows 8 to 15 of the table, at the window's first column. -/
theorem off_lo {v : BitVec 32} (hv : v.toNat ≤ 1000000) : k0_off1 v = ![0, v.toNat / 128 * 128] := by
  rw [← mult_toNat hv]; rfl
theorem off_hi {v : BitVec 32} (hv : v.toNat ≤ 1000000) : k0_off2 v = ![8, v.toNat / 128 * 128] := by
  rw [← mult_toNat hv]; rfl

/-- The offsets of the window's eight words at the index's place, row by row. -/
theorem off_0 {v : BitVec 32} (hv : v.toNat ≤ 1000000) : k0_off3 v = ![0, v.toNat % 128] := by
  rw [← place_toNat hv]; rfl
theorem off_1 {v : BitVec 32} (hv : v.toNat ≤ 1000000) : k0_off4 v = ![1, v.toNat % 128] := by
  rw [← place_toNat hv]; rfl
theorem off_2 {v : BitVec 32} (hv : v.toNat ≤ 1000000) : k0_off5 v = ![2, v.toNat % 128] := by
  rw [← place_toNat hv]; rfl
theorem off_3 {v : BitVec 32} (hv : v.toNat ≤ 1000000) : k0_off6 v = ![3, v.toNat % 128] := by
  rw [← place_toNat hv]; rfl
theorem off_4 {v : BitVec 32} (hv : v.toNat ≤ 1000000) : k0_off7 v = ![4, v.toNat % 128] := by
  rw [← place_toNat hv]; rfl
theorem off_5 {v : BitVec 32} (hv : v.toNat ≤ 1000000) : k0_off8 v = ![5, v.toNat % 128] := by
  rw [← place_toNat hv]; rfl
theorem off_6 {v : BitVec 32} (hv : v.toNat ≤ 1000000) : k0_off9 v = ![6, v.toNat % 128] := by
  rw [← place_toNat hv]; rfl
theorem off_7 {v : BitVec 32} (hv : v.toNat ≤ 1000000) : k0_off10 v = ![7, v.toNat % 128] := by
  rw [← place_toNat hv]; rfl

/-- An 8×128 window at row 0 or 8 of the padded table and at the first column of an index's window lies inside it. -/
theorem window_inb {r c : Nat} (hr : r ≤ 8) (hc : c ≤ 999936) :
    ∀ a, (![r, c] : Fin 2 → Nat) a + S8x128.size a ≤ S16x1000064.size a := by
  intro a; fin_cases a <;> simp <;> omega

/-- One word at row `r < 8` and a column below 128 lies inside a window. -/
theorem word_inb {r c : Nat} (hr : r < 8) (hc : c < 128) :
    ∀ a, (![r, c] : Fin 2 → Nat) a + S1x1.size a ≤ S8x128.size a := by
  intro a; fin_cases a <;> simp <;> omega

/-- The kernel's side condition holds of every index of the table. -/
theorem chk {v : BitVec 32} (hv : v.toNat ≤ 1000000) : k0_chk1 v := by
  have hm : v.toNat % 128 < 128 := Nat.mod_lt _ (by decide)
  unfold k0_chk1
  rw [mult_toNat hv, off_lo hv, off_hi hv, off_0 hv, off_1 hv, off_2 hv, off_3 hv, off_4 hv, off_5 hv, off_6 hv, off_7 hv]
  exact ⟨⟨_, Nat.mul_comm _ _⟩, window_inb (by decide) (by omega), window_inb (by decide) (by omega),
    word_inb (by decide) hm, word_inb (by decide) hm, word_inb (by decide) hm, word_inb (by decide) hm,
    word_inb (by decide) hm, word_inb (by decide) hm, word_inb (by decide) hm, word_inb (by decide) hm⟩

end Cert.Proof.Lookup

end
-- ==== Proof.Body.lean ====
/-
  The kernel's body on the SparseCore's sequencer. From the padded table's transpose, the index array's transpose and its
  own scalar buffers, the sequencer copies the first sixteen indices in, reads the first, starts the copies of the two
  windows that hold the index's column, waits for the first window, moves its eight words to the row buffer, does the
  same with the second window, and copies the row out. The two windows' copies read the table at the same time, each
  under half of the table's share. The body is run by the symbolic executor, and what it leaves in the result is read
  back word by word: word `j` is the table's word at row `j` and at the index's column.
-/
module

public import proofs.«01_k».proof.Proof.Index
public import proofs.«01_k».proof.Proof.Gen.KernelIdeal.Skeleton
public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pointwise.Index
public import Idealize.ShloMosaic.Lib.Writes

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The vocabulary of the run -/

abbrev 𝒱₀ : Variants := Variants.none
abbrev UH : Type := URounds (GSem nD τ sig) ℕ
abbrev UU : Type := UH × Counters

local notation "𝕄" => MT nD τ sig (HIx 1) (Elt F) ℕ UU ℕ

-- the kernel's arrays and its scalar buffers, in the body's spelling: the table, the indices, the result; the indices
-- read in, the two windows, the row
local notation "tW" => (Memref.whole Cert.KernelIdeal.main_v1_scs : Memref Cert.KernelIdeal.sig Kind.scScalar Space.hbm Cert.KernelIdeal.S16x1000064 EltTy.f32)
local notation "iW" => (Memref.whole Cert.KernelIdeal.main_v2_scs : Memref Cert.KernelIdeal.sig Kind.scScalar Space.hbm Cert.KernelIdeal.S50x4096 EltTy.i32)
local notation "oW" => (Memref.whole Cert.KernelIdeal.main_v3_scs : Memref Cert.KernelIdeal.sig Kind.scScalar Space.hbm Cert.KernelIdeal.S16 EltTy.f32)
local notation "ixW" => (Memref.whole Cert.KernelIdeal.cc0_scratch0 : Memref Cert.KernelIdeal.sig Kind.scScalar Space.smem Cert.KernelIdeal.S16 EltTy.i32)
local notation "loW" => (Memref.whole Cert.KernelIdeal.cc0_scratch1 : Memref Cert.KernelIdeal.sig Kind.scScalar Space.smem Cert.KernelIdeal.S8x128 EltTy.f32)
local notation "hiW" => (Memref.whole Cert.KernelIdeal.cc0_scratch2 : Memref Cert.KernelIdeal.sig Kind.scScalar Space.smem Cert.KernelIdeal.S8x128 EltTy.f32)
local notation "rowW" => (Memref.whole Cert.KernelIdeal.cc0_scratch5 : Memref Cert.KernelIdeal.sig Kind.scScalar Space.smem Cert.KernelIdeal.S16 EltTy.f32)

variable [FloatOps F]

variable (d : Dev nD)

/-- The grid's coordinates on core `c`. -/
def coordsS (c : Fin (grid0.bound 0)) : grid0.Coords := fun | 0 => c | ⟨_ + 1, h⟩ => absurd h (Nat.not_lt.2 (Nat.le_add_left _ _))

/-- The thread of SparseCore 0's sequencer. -/
abbrev S0 (h : 0 < grid0.bound 0) : Thread nD τ := S d ((⟨0, h⟩ : Fin (grid0.bound 0)).castLE hcore0)

/-- DMA cell `k` of the pool. -/
abbrev csem (k : Nat) (hk : k < 4 := by decide) : DmaSem sig := ⟨k, hk⟩
/-- The four DMA cells that the body waits on, all at zero. -/
abbrev cells0 (c : Fin τ.nSC) : sProp 𝕄 :=
  iprop(semVal (S d c, SemLoc.dma (csem 0)) 0 ∗ semVal (S d c, SemLoc.dma (csem 1)) 0
    ∗ semVal (S d c, SemLoc.dma (csem 2)) 0 ∗ semVal (S d c, SemLoc.dma (csem 3)) 0)

/-- The row the kernel leaves: the table's column at word `v`, one word from each of its sixteen rows. -/
def pick (t : S16x1000064.Idx → Elt F .f32) (v : BitVec 32) : S16.Idx → Elt F .f32 :=
  fun j => t (ix2 (j 0) (Fin.ofNat 1000064 v.toNat))

/-! ## Words of the windows and of the row -/

/-- A word of a window: the window was filled from the table's 8×128 block at row `R` and column `C`, so its word at row
    `r` and column `c` is the table's word at row `R + r` and column `C + c`. -/
theorem word_eq {κ : Kind} {sp : Space} (v : View sig κ sp S8x128 .f32) (f : v.ty.Contents (Elt F)) (ft : S16x1000064.Idx → Elt F .f32)
    {off o : Fin 2 → Nat} (inb : ∀ a, off a + S1x1.size a ≤ S8x128.size a) (inbo : ∀ a, o a + S8x128.size a ≤ S16x1000064.size a) (hs)
    {r c R C : Nat} (hoff : off = ![r, c]) (ho : o = ![R, C]) (x : S1x1.Idx) (j : S16x1000064.Idx)
    (h0 : (j 0).val = R + r) (h1 : (j 1).val = C + c) :
    v.readAt (Elt F) (Rect.unit (s := S8x128) off S1x1.size inb).toLoadRect
        (v.write (Elt F) f (ReadAs.same.apply (View.read (Elt F) ((tW).slice (Rect.unit (s := S16x1000064) o S8x128.size inbo) hs).view ft)) Finset.univ) x
      = ft j := by
  have hx : ∀ a, (x a).val = 0 := fun a => by
    have := (x a).isLt; fin_cases a <;> simpa using this
  rw [View.readAt_apply, View.read_write_univ]
  refine congrArg ft (funext fun a => Fin.ext ?_)
  subst hoff ho
  fin_cases a
  · refine Eq.trans ?_ h0.symm
    change R + 1 * (r + 1 * (x 0).val) = R + r
    rw [hx 0]; omega
  · refine Eq.trans ?_ h1.symm
    change C + 1 * (c + 1 * (x 1).val) = C + c
    rw [hx 1]; omega

/-- The word that a window gives to place `R + r` of the row is the table's, at that row and at the index's column. -/
theorem piece_eq {κ : Kind} {sp : Space} (v : View sig κ sp S8x128 .f32) (f : v.ty.Contents (Elt F)) (ft : S16x1000064.Idx → Elt F .f32)
    {off o : Fin 2 → Nat} (inb : ∀ a, off a + S1x1.size a ≤ S8x128.size a) (inbo : ∀ a, o a + S8x128.size a ≤ S16x1000064.size a) (hs)
    {r c R C : Nat} (hoff : off = ![r, c]) (ho : o = ![R, C]) (w : BitVec 32) (hw : (Fin.ofNat 1000064 w.toNat).val = C + c)
    (z : S1x1.Idx) {inbk : ∀ a, (![R + r] : Fin 1 → Nat) a + S1.size a ≤ S16.size a}
    (x : (Rect.unit (s := S16) ![R + r] S1.size inbk).shape.Idx) :
    v.readAt (Elt F) (Rect.unit (s := S8x128) off S1x1.size inb).toLoadRect
        (v.write (Elt F) f (ReadAs.same.apply (View.read (Elt F) ((tW).slice (Rect.unit (s := S16x1000064) o S8x128.size inbo) hs).view ft)) Finset.univ) z
      = pick ft w ((Rect.unit (s := S16) ![R + r] S1.size inbk).emb x) := by
  have hx : (x 0).val = 0 := by have := (x 0).isLt; simpa using this
  refine word_eq v f ft inb inbo hs hoff ho z _ ?_ hw
  change R + r + 1 * (x 0).val = R + r
  omega

/-! ## The run -/

set_option maxHeartbeats 4000000 in
/-- The body's run: from the table (its two halves of a share), the indices, the result and the scalar buffers at
    anything, the four cells at zero and what the sequencer owes, and the first index inside the table, it ends with the
    table and the indices unchanged, the result at the index's row, and the cells at zero again. -/
theorem seq_run (h : 0 < grid0.bound 0) (O : CellTallies nD τ sig (HIx 1)) (W : Waits sig (HIx 1))
    (ft : Buf (Elt F) ((tW).view.loc (S0 d h))) (fi : Buf (Elt F) ((iW).view.loc (S0 d h)))
    (hi : (fi (ix2 0 0) : BitVec 32).toNat ≤ 1000000)
    (fo : Buf (Elt F) ((oW).view.loc (S0 d h))) (f0 : Buf (Elt F) ((ixW).view.loc (S0 d h)))
    (f1 : Buf (Elt F) ((loW).view.loc (S0 d h))) (f2 : Buf (Elt F) ((hiW).view.loc (S0 d h)))
    (f5 : Buf (Elt F) ((rowW).view.loc (S0 d h))) :
    (iprop(Transfers.MayWaits (S0 d h) (none : HIx 1) O
        ∗ ((tW).view.loc (S0 d h) ↦{fullShare.left} ft)
        ∗ ((tW).view.loc (S0 d h) ↦{fullShare.right} ft)
        ∗ ((iW).view.loc (S0 d h) ↦{fullShare} fi)
        ∗ ((oW).view.loc (S0 d h) ↦{fullShare} fo)
        ∗ ((ixW).view.loc (S0 d h) ↦{fullShare} f0)
        ∗ ((loW).view.loc (S0 d h) ↦{fullShare} f1)
        ∗ ((hiW).view.loc (S0 d h) ↦{fullShare} f2)
        ∗ ((rowW).view.loc (S0 d h) ↦{fullShare} f5)
        ∗ cells0 d (((⟨0, h⟩ : Fin (grid0.bound 0))).castLE hcore0)
        ∗ owes (S0 d h) O W) : sProp 𝕄)
      ⊢ wp frame (wpE (defs₀ (F := F)) 𝒱₀ (S0 d h) none) Set.univ
          (cc0__row_lookup (coordsS ⟨0, h⟩) tW (Memref.isWhole_whole _) iW (Memref.isWhole_whole _) oW (Memref.isWhole_whole _)
            ixW (Memref.isWhole_whole _) loW (Memref.isWhole_whole _) hiW (Memref.isWhole_whole _) cc0_scratch3 cc0_scratch4
            rowW (Memref.isWhole_whole _) cc0_scoped0 cc0_scoped1)
          fun _ => iprop(((tW).view.loc (S0 d h) ↦{fullShare.left} ft)
            ∗ ((tW).view.loc (S0 d h) ↦{fullShare.right} ft)
            ∗ ((iW).view.loc (S0 d h) ↦{fullShare} fi)
            ∗ ((oW).view.loc (S0 d h) ↦{fullShare} pick ft (fi (ix2 0 0)))
            ∗ (∃ f, (ixW).view.loc (S0 d h) ↦{fullShare} f)
            ∗ (∃ f, (loW).view.loc (S0 d h) ↦{fullShare} f)
            ∗ (∃ f, (hiW).view.loc (S0 d h) ↦{fullShare} f)
            ∗ (∃ f, (rowW).view.loc (S0 d h) ↦{fullShare} f)
            ∗ cells0 d (((⟨0, h⟩ : Fin (grid0.bound 0))).castLE hcore0)
            ∗ ∃ W', owes (S0 d h) O W') := by
  iintro ⟨#Hmw, Ht, Ht', Hi, Ho, H0, H1, H2, H5, ⟨Hc0, Hc1, Hc2, Hc3⟩, HO⟩
  sl_unfold [cc0__row_lookup]
  sl_exec
  have hr : seq_run.sl.r d h fi f0 = fi (ix2 0 0) := by
    unfold seq_run.sl.r seq_run.sl.dma0
    rw [View.readAt_apply, View.read_write_univ]
    refine congrArg fi ?_
    funext a; fin_cases a <;> rfl
  have hk : k0_chk1 (seq_run.sl.r d h fi f0) := chk (by rw [hr]; exact hi)
  sl_exec
  have hv : (seq_run.sl.r d h fi f0 : BitVec 32).toNat ≤ 1000000 := by rw [hr]; exact hi
  have hat : (Fin.ofNat 1000064 (fi (ix2 0 0) : BitVec 32).toNat).val = (seq_run.sl.r d h fi f0 : BitVec 32).toNat / 128 * 128 + (seq_run.sl.r d h fi f0 : BitVec 32).toNat % 128 := by
    rw [hr, Fin.val_ofNat, Nat.mod_eq_of_lt (by omega)]; omega
  have hd : seq_run.sl.dma48 d h ft fi f0 f1 f2 f5 hk = pick ft (fi (ix2 0 0)) := by
    unfold seq_run.sl.dma48 seq_run.sl.H5_16
    funext y
    refine View.read_writes_apply_of_pieces _ _ (pick ft (fi (ix2 0 0))) _ ?_ y ?_
    · simp only [List.forall_mem_cons]
      refine ⟨?_, ?_, ?_, ?_, ?_, ?_, ?_, ?_, ?_, ?_, ?_, ?_, ?_, ?_, ?_, ?_, fun _ hp => nomatch hp⟩
      · intro x; delta seq_run.sl.r_31 seq_run.sl.f_29 seq_run.sl.dma0_2; exact piece_eq _ _ ft _ _ _ (off_7 hv) (off_hi hv) _ hat _ x
      · intro x; delta seq_run.sl.r_29 seq_run.sl.f_27 seq_run.sl.dma0_2; exact piece_eq _ _ ft _ _ _ (off_6 hv) (off_hi hv) _ hat _ x
      · intro x; delta seq_run.sl.r_27 seq_run.sl.f_25 seq_run.sl.dma0_2; exact piece_eq _ _ ft _ _ _ (off_5 hv) (off_hi hv) _ hat _ x
      · intro x; delta seq_run.sl.r_25 seq_run.sl.f_23 seq_run.sl.dma0_2; exact piece_eq _ _ ft _ _ _ (off_4 hv) (off_hi hv) _ hat _ x
      · intro x; delta seq_run.sl.r_23 seq_run.sl.f_21 seq_run.sl.dma0_2; exact piece_eq _ _ ft _ _ _ (off_3 hv) (off_hi hv) _ hat _ x
      · intro x; delta seq_run.sl.r_21 seq_run.sl.f_19 seq_run.sl.dma0_2; exact piece_eq _ _ ft _ _ _ (off_2 hv) (off_hi hv) _ hat _ x
      · intro x; delta seq_run.sl.r_19 seq_run.sl.f_17 seq_run.sl.dma0_2; exact piece_eq _ _ ft _ _ _ (off_1 hv) (off_hi hv) _ hat _ x
      · intro x; delta seq_run.sl.r_17 seq_run.sl.f_15 seq_run.sl.dma0_2; exact piece_eq _ _ ft _ _ _ (off_0 hv) (off_hi hv) _ hat _ x
      · intro x; delta seq_run.sl.r_15 seq_run.sl.f_13 seq_run.sl.dma0_1; exact piece_eq _ _ ft _ _ _ (off_7 hv) (off_lo hv) _ hat _ x
      · intro x; delta seq_run.sl.r_13 seq_run.sl.f_11 seq_run.sl.dma0_1; exact piece_eq _ _ ft _ _ _ (off_6 hv) (off_lo hv) _ hat _ x
      · intro x; delta seq_run.sl.r_11 seq_run.sl.f_9 seq_run.sl.dma0_1; exact piece_eq _ _ ft _ _ _ (off_5 hv) (off_lo hv) _ hat _ x
      · intro x; delta seq_run.sl.r_9 seq_run.sl.f_7 seq_run.sl.dma0_1; exact piece_eq _ _ ft _ _ _ (off_4 hv) (off_lo hv) _ hat _ x
      · intro x; delta seq_run.sl.r_7 seq_run.sl.f_5 seq_run.sl.dma0_1; exact piece_eq _ _ ft _ _ _ (off_3 hv) (off_lo hv) _ hat _ x
      · intro x; delta seq_run.sl.r_5 seq_run.sl.f_3 seq_run.sl.dma0_1; exact piece_eq _ _ ft _ _ _ (off_2 hv) (off_lo hv) _ hat _ x
      · intro x; delta seq_run.sl.r_3 seq_run.sl.f_1 seq_run.sl.dma0_1; exact piece_eq _ _ ft _ _ _ (off_1 hv) (off_lo hv) _ hat _ x
      · intro x; delta seq_run.sl.r_1 seq_run.sl.f seq_run.sl.dma0_1; exact piece_eq _ _ ft _ _ _ (off_0 hv) (off_lo hv) _ hat _ x
    · have hy : (y 0).val < 16 := (y 0).isLt
      simp only [List.exists_mem_cons_iff, Rect.mem_set_unit, Fin.forall_fin_one, Matrix.cons_val_zero]
      clear * - hy
      omega
  have ho : View.write (Elt F) (oW).view fo (seq_run.sl.dma48 d h ft fi f0 f1 f2 f5 hk) Finset.univ = pick ft (fi (ix2 0 0)) := by
    rw [hd]
    exact View.read_write_univ (v := (oW).view) (Val := Elt F) fo _
  sl_step
  isplitl [Ht]; · iexact Ht
  isplitl [Ht']; · iexact Ht'
  isplitl [Hi]; · iexact Hi
  isplitl [Ho]
  · iapply (Entails.of_eq (congrArg (fun g => ((oW).view.loc (S0 d h) ↦{fullShare} g : sProp 𝕄)) ho)); iexact Ho
  isplitl [H0]; · iexists _; iexact H0
  isplitl [H1]; · iexists _; iexact H1
  isplitl [H2]; · iexists _; iexact H2
  isplitl [H5]; · iexists _; iexact H5
  isplitl [Hc0 Hc1 Hc2 Hc3]
  · isplitl [Hc0]; · iexact Hc0
    isplitl [Hc1]; · iexact Hc1
    isplitl [Hc2]; · iexact Hc2
    iexact Hc3
  iexists _; iexact HO

end Cert.Proof.Lookup

end
-- ==== Proof.Launch.lean ====
/-
  The launch of the kernel's one SparseCore call, and the run of the whole program. The host program transposes the table
  and pads it to a multiple of 128 columns, transposes the indices, and starts the call on SparseCore 0's sequencer, which
  is handed the two arrays and the result whole and hands them back. The program's run, for any float values and from any
  memory whose first index lies in the table, ends with the two arguments unchanged, every semaphore counter at zero, and
  the result at the row the kernel leaves.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch semaphores are distinct and unscoped, and no buffer is shared by a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the resource algebra. -/
abbrev EH : Emb UH (MT nD τ sig (HIx 1) (Elt F) ℕ UU ℕ) := embL

local notation "tW" => (Memref.whole Cert.KernelIdeal.main_v1_scs : Memref Cert.KernelIdeal.sig Kind.scScalar Space.hbm Cert.KernelIdeal.S16x1000064 EltTy.f32)
local notation "iW" => (Memref.whole Cert.KernelIdeal.main_v2_scs : Memref Cert.KernelIdeal.sig Kind.scScalar Space.hbm Cert.KernelIdeal.S50x4096 EltTy.i32)
local notation "oW" => (Memref.whole Cert.KernelIdeal.main_v3_scs : Memref Cert.KernelIdeal.sig Kind.scScalar Space.hbm Cert.KernelIdeal.S16 EltTy.f32)
local notation "ixW" => (Memref.whole Cert.KernelIdeal.cc0_scratch0 : Memref Cert.KernelIdeal.sig Kind.scScalar Space.smem Cert.KernelIdeal.S16 EltTy.i32)
local notation "loW" => (Memref.whole Cert.KernelIdeal.cc0_scratch1 : Memref Cert.KernelIdeal.sig Kind.scScalar Space.smem Cert.KernelIdeal.S8x128 EltTy.f32)
local notation "hiW" => (Memref.whole Cert.KernelIdeal.cc0_scratch2 : Memref Cert.KernelIdeal.sig Kind.scScalar Space.smem Cert.KernelIdeal.S8x128 EltTy.f32)
local notation "rowW" => (Memref.whole Cert.KernelIdeal.cc0_scratch5 : Memref Cert.KernelIdeal.sig Kind.scScalar Space.smem Cert.KernelIdeal.S16 EltTy.f32)

variable (m : (ℓ : Loc nD τ sig) → Buf (Elt F) ℓ) (ρ : Dev nD → PrngReg)

/-- The program's arrays, as the TensorCore addresses them: the arguments, the padded table's transpose, the indices'
    transpose, the result. -/
abbrev idsLoc (d : Dev nD) : Loc nD τ sig := (SparseCore.T d).loc main_arg0
abbrev tabLoc (d : Dev nD) : Loc nD τ sig := (SparseCore.T d).loc main_arg1
abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

variable [FloatOps F]

/-! ## The host operations before the call -/

/-- The four operations before the call: the table's transpose, the padding's zero, the padded table, the indices'
    transpose. -/
abbrev hostOps : List (HloOp τ sig (Elt F)) :=
  [ StableHlo.unary main_arg1 main_v0 ((transpose S16x1000001 [1, 0] · transposes_S1000001x16_S16x1000001_1_0) : (⟨S1000001x16, .f32⟩ : BufTy).Contents (Elt F) → (⟨S16x1000001, .f32⟩ : BufTy).Contents (Elt F)),
    StableHlo.nullary main_cst (constant S_ .f32 0x00000000#32),
    StableHlo.binary main_v0 main_cst main_v1 ((fun x v => pad S16x1000064 ![0, 0] ![0, 63] ![0, 0] x v pads_S16x1000001_S16x1000064_000_0630 h_S_) : (⟨S16x1000001, .f32⟩ : BufTy).Contents (Elt F) → (⟨S_, .f32⟩ : BufTy).Contents (Elt F) → (⟨S16x1000064, .f32⟩ : BufTy).Contents (Elt F)),
    StableHlo.unary main_arg0 main_v2 ((transpose S50x4096 [1, 0] · transposes_S4096x50_S50x4096_1_0) : (⟨S4096x50, .i32⟩ : BufTy).Contents (Elt F) → (⟨S50x4096, .i32⟩ : BufTy).Contents (Elt F)) ]

/-- @main is the four operations, then the call. -/
theorem main_eq (d : Dev nD) : main (F := F) d = (StableHlo.seq hostOps >>= fun _ => (sc (F := F)).run d 0 >>= fun _ => pure ⟨⟩) := rfl

/-- The table as the call reads it: transposed, with 63 columns of zeros appended. -/
def tbl (d : Dev nD) : S16x1000064.Idx → Elt F .f32 :=
  pad S16x1000064 ![0, 0] ![0, 63] ![0, 0] (transpose S16x1000001 [1, 0] (m (tabLoc d) : S1000001x16.Idx → Elt F .f32) transposes_S1000001x16_S16x1000001_1_0)
    (constant S_ .f32 0x00000000#32) pads_S16x1000001_S16x1000064_000_0630 h_S_
/-- The indices as the call reads them: transposed. -/
def idt (d : Dev nD) : S50x4096.Idx → Elt F .i32 :=
  transpose S50x4096 [1, 0] (m (idsLoc d) : S4096x50.Idx → Elt F .i32) transposes_S4096x50_S50x4096_1_0
/-- The result: the padded table's column at the first index. -/
def res (d : Dev nD) : S16.Idx → Elt F .f32 := pick (tbl m d) (idt m d (ix2 0 0))

/-- The launch contents of the device's arrays, and their contents at the call. -/
abbrev V0 (d : Dev nD) : Valuation τ sig (Elt F) := fun b => m (d, b)
abbrev V1 (d : Dev nD) : Valuation τ sig (Elt F) := StableHlo.after (hostOps (F := F)) (V0 m d)

theorem V1_ids (d : Dev nD) : V1 m d (Proc.devRef .tc (main_arg0 : Ref sig .tc)) = m (idsLoc d) := by
  unfold V1 hostOps; after_results
theorem V1_tab (d : Dev nD) : V1 m d (Proc.devRef .tc (main_arg1 : Ref sig .tc)) = m (tabLoc d) := by
  unfold V1 hostOps; after_results
theorem V1_t (d : Dev nD) : V1 m d (Proc.devRef .tc (main_v1 : Ref sig .tc)) = tbl m d := by
  unfold V1 hostOps; after_results <;> rfl
theorem V1_i (d : Dev nD) : V1 m d (Proc.devRef .tc (main_v2 : Ref sig .tc)) = idt m d := by
  unfold V1 hostOps; after_results <;> rfl

/-! ## What the call is handed and hands back -/

abbrev tPts (d : Dev nD) : sProp 𝕄 := tLoc d ↦{fullShare} tbl m d
abbrev iPts (d : Dev nD) : sProp 𝕄 := iLoc d ↦{fullShare} idt m d
abbrev oPts (d : Dev nD) (f : Buf (Elt F) (oLoc d)) : sProp 𝕄 := oLoc d ↦{fullShare} f

/-- The call's payloads: the table, the indices and the result to SparseCore 0's sequencer, and back with the result at
    the index's row. -/
def P : (K (F := F)).Pay (nD := nD) (Val := Elt F) (Name := ℕ) (U := UU) where
  st := fun _ d _ => iprop(tPts m d ∗ iPts m d ∗ ∃ f, oPts d f)
  dn := fun _ d _ => iprop(tPts m d ∗ iPts m d ∗ oPts d (res m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own buffers and cells -/

section Own

variable (d : Dev nD)

abbrev dcell (c : Fin τ.nSC) (k : Fin 4) : GSem nD τ sig := (S d c, .dma (csem k.val k.isLt))

omit [FloatOps F] in
theorem dcell_mem (c : Fin τ.nSC) (k : Fin 4) : dcell d c k ∈ ownCells (S d c) :=
  mem_ownCells.mpr ⟨rfl, (show ∀ s : DmaSem sig, (SemLoc.dma s : SemLoc sig).isScoped .scScalar = true by decide) _⟩

omit [FloatOps F] in
/-- The sequencer's own cells at zero: the body's four and the rest. -/
theorem ownSems0_S (c : Fin τ.nSC) :
    (ownSems0 (S d c) : sProp 𝕄)
      = iprop(cells0 d c ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The four scalar buffers of sequencer `c`, as buffers of the device: the indices read in, the two windows, the row. -/
abbrev bIx (c : Fin τ.nSC) : DevRef τ sig := (Proc.scScalar c).devRef cc0_scratch0
abbrev bLo (c : Fin τ.nSC) : DevRef τ sig := (Proc.scScalar c).devRef cc0_scratch1
abbrev bHi (c : Fin τ.nSC) : DevRef τ sig := (Proc.scScalar c).devRef cc0_scratch2
abbrev bRow (c : Fin τ.nSC) : DevRef τ sig := (Proc.scScalar c).devRef cc0_scratch5

omit [FloatOps F] in
/-- The sequencer's own buffers: the body's four, each at some contents, and the rest. -/
theorem ownBufs_S (c : Fin τ.nSC) :
    (ownBufs (S d c) : sProp 𝕄)
      = iprop((∃ f, (S d c).loc cc0_scratch0 ↦{fullShare} f) ∗ (∃ f, (S d c).loc cc0_scratch1 ↦{fullShare} f)
          ∗ (∃ f, (S d c).loc cc0_scratch2 ↦{fullShare} f) ∗ (∃ f, (S d c).loc cc0_scratch5 ↦{fullShare} f)
          ∗ bigSep (((((ownRefs (τ := τ) (.scScalar c)).erase (bIx c)).erase (bLo c)).erase (bHi c)).erase (bRow c)) fun b => iprop(∃ f, ((d, b) : Loc nD τ sig) ↦{fullShare} f)) := by
  unfold SparseCore.Cfg.ownBufs
  have n : ∀ c : Fin τ.nSC, bLo c ≠ bIx c ∧ bHi c ≠ bIx c ∧ bHi c ≠ bLo c ∧ bRow c ≠ bIx c ∧ bRow c ≠ bLo c ∧ bRow c ≠ bHi c := by decide
  obtain ⟨n1, n2, n3, n4, n5, n6⟩ := n c
  have m0 : bIx c ∈ ownRefs (τ := τ) (.scScalar c) := mem_ownRefs.mpr rfl
  have m1 : bLo c ∈ ownRefs (τ := τ) (.scScalar c) := mem_ownRefs.mpr rfl
  have m2 : bHi c ∈ ownRefs (τ := τ) (.scScalar c) := mem_ownRefs.mpr rfl
  have m3 : bRow c ∈ ownRefs (τ := τ) (.scScalar c) := mem_ownRefs.mpr rfl
  rw [SparseCore.bigSep_erase' m0, SparseCore.bigSep_erase' (Finset.mem_erase.mpr ⟨n1, m1⟩),
    SparseCore.bigSep_erase' (Finset.mem_erase.mpr ⟨n3, Finset.mem_erase.mpr ⟨n2, m2⟩⟩),
    SparseCore.bigSep_erase' (Finset.mem_erase.mpr ⟨n6, Finset.mem_erase.mpr ⟨n5, Finset.mem_erase.mpr ⟨n4, m3⟩⟩⟩)]

omit [FloatOps F] in
/-- The table's full share is its two halves. -/
theorem halves (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The kernel on SparseCore 0's sequencer as the launch asks for it: the arrays in, its scoped buffers and cells opened
    around the body's run and packed again, the arrays out with the result at the index's row. -/
theorem body₀ (hm : (idt m d (ix2 0 0) : BitVec 32).toNat ≤ 1000000) (hF : (K (F := F)).Facts) (h : 0 < grid0.bound 0)
    (O : CellTallies nD τ sig (HIx 1)) (W : Waits sig (HIx 1)) (hO : ∀ g, O g none = 0) :
    iprop(levAts (K (F := F)).L (K (F := F)).lev ∗ emp ∗ (tPts m d ∗ iPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__row_lookup (coordsS ⟨0, h⟩) tW (Memref.isWhole_whole _) iW (Memref.isWhole_whole _) oW (Memref.isWhole_whole _)
            ixW (Memref.isWhole_whole _) loW (Memref.isWhole_whole _) hiW (Memref.isWhole_whole _) cc0_scratch3 cc0_scratch4
            rowW (Memref.isWhole_whole _) cc0_scoped0 cc0_scoped1)
          fun _ => iprop((tPts m d ∗ iPts m d ∗ oPts d (res m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Ht, Hi, %fo, Ho⟩, ⟨⟨⟨%f0, H0⟩, ⟨%f1, H1⟩, ⟨%f2, H2⟩, ⟨%f5, H5⟩, Hbufs⟩, Htiles⟩, ⟨⟨HC, Hsems⟩, HtileSems⟩, HO⟩
  ihave Hmw := ((K (F := F)).mayWaits_none (thr := S0 d h) hO) $$ Hlv
  ihave Hth := (halves (F := F) (tLoc d) (tbl m d)).1 $$ Ht
  icases Hth with ⟨Ht, Ht'⟩
  iapply (wp_wand_r Idealize.ShloMosaic.frame (wpE (defs₀ (F := F)) 𝒱₀ (S0 d h) none) Set.univ)
  isplitl [Ht Ht' Hi Ho H0 H1 H2 H5 HC HO]
  · iapply (seq_run d h O W (tbl m d) (idt m d) hm fo f0 f1 f2 f5)
    isplitr; · iexact Hmw
    isplitl [Ht]; · iexact Ht
    isplitl [Ht']; · iexact Ht'
    isplitl [Hi]; · iexact Hi
    isplitl [Ho]; · iexact Ho
    isplitl [H0]; · iexact H0
    isplitl [H1]; · iexact H1
    isplitl [H2]; · iexact H2
    isplitl [H5]; · iexact H5
    isplitl [HC]; · iexact HC
    iexact HO
  iintro %_ ⟨Ht, Ht', Hi, Ho, H0, H1, H2, H5, HC, %W', HO⟩
  isplitl [Ht Ht' Hi Ho]
  · isplitl [Ht Ht']
    · iapply (halves (F := F) (tLoc d) (tbl m d)).2
      isplitl [Ht]; · iexact Ht
      iexact Ht'
    isplitl [Hi]; · iexact Hi
    iexact Ho
  isplitl [H0 H1 H2 H5 Hbufs Htiles]
  · isplitl [H0 H1 H2 H5 Hbufs]
    · isplitl [H0]; · iexact H0
      isplitl [H1]; · iexact H1
      isplitl [H2]; · iexact H2
      isplitl [H5]; · iexact H5
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Own

/-! ## The launch theorem's obligations -/

theorem defs₀_scalar (c : Fin τ.nSC) :
    defs₀ (F := F) (.scScalar c) 0 ()
      = SparseCore.onCore hcore0 (fun c => cc0__row_lookup (coordsS c) tW (Memref.isWhole_whole _) iW (Memref.isWhole_whole _) oW (Memref.isWhole_whole _)
            ixW (Memref.isWhole_whole _) loW (Memref.isWhole_whole _) hiW (Memref.isWhole_whole _) cc0_scratch3 cc0_scratch4
            rowW (Memref.isWhole_whole _) cc0_scoped0 cc0_scoped1) ⟨⟩ c := rfl

/-- The call's obligation: SparseCore 0's sequencer runs the body. -/
theorem scalarObl (hm : ∀ d, (idt m d (ix2 0 0) : BitVec 32).toNat ≤ 1000000) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d (hm d) facts h O W hO

/-- The launch's ghost element: the handshakes' rounds. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

/-- The TensorCore's seven arrays. -/
abbrev refs7 : Finset (DevRef τ sig) :=
  {Proc.devRef .tc (main_arg0 : Ref sig .tc), Proc.devRef .tc (main_arg1 : Ref sig .tc), Proc.devRef .tc (main_v1 : Ref sig .tc),
    Proc.devRef .tc (main_v2 : Ref sig .tc), Proc.devRef .tc (main_v3 : Ref sig .tc), Proc.devRef .tc (main_v0 : Ref sig .tc), Proc.devRef .tc (main_cst : Ref sig .tc)}

omit [FloatOps F] in
theorem held_refs7 (d : Dev nD) (W : Valuation τ sig (Elt F)) :
    (held (T d) refs7 W : sProp 𝕄) = iprop((idsLoc d ↦{fullShare} W (Proc.devRef .tc (main_arg0 : Ref sig .tc)))
      ∗ (tabLoc d ↦{fullShare} W (Proc.devRef .tc (main_arg1 : Ref sig .tc))) ∗ (tLoc d ↦{fullShare} W (Proc.devRef .tc (main_v1 : Ref sig .tc)))
      ∗ (iLoc d ↦{fullShare} W (Proc.devRef .tc (main_v2 : Ref sig .tc))) ∗ (oLoc d ↦{fullShare} W (Proc.devRef .tc (main_v3 : Ref sig .tc)))
      ∗ ((SparseCore.T d).loc main_v0 ↦{fullShare} W (Proc.devRef .tc (main_v0 : Ref sig .tc)))
      ∗ (SparseCore.T d).loc main_cst ↦{fullShare} W (Proc.devRef .tc (main_cst : Ref sig .tc))) := by
  unfold held refs7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The four operations touch the seven arrays alone, and leave none undefined. -/
theorem hostOps_sub : ∀ op ∈ (hostOps : List (HloOp τ sig (Elt F))), op.bufs ⊆ refs7 := fun op h => by
  simp only [List.mem_cons, List.not_mem_nil, or_false] at h
  rcases h with rfl | rfl | rfl | rfl
  · show ({Proc.devRef .tc (main_arg1 : Ref sig .tc), Proc.devRef .tc (main_v0 : Ref sig .tc)} : Finset (DevRef τ sig)) ⊆ refs7; decide
  · show ({Proc.devRef .tc (main_cst : Ref sig .tc)} : Finset (DevRef τ sig)) ⊆ refs7; decide
  · show ({Proc.devRef .tc (main_v0 : Ref sig .tc), Proc.devRef .tc (main_cst : Ref sig .tc), Proc.devRef .tc (main_v1 : Ref sig .tc)} : Finset (DevRef τ sig)) ⊆ refs7; decide
  · show ({Proc.devRef .tc (main_arg0 : Ref sig .tc), Proc.devRef .tc (main_v2 : Ref sig .tc)} : Finset (DevRef τ sig)) ⊆ refs7; decide
theorem hostOps_fresh : ∀ op ∈ (hostOps : List (HloOp τ sig (Elt F))), op.fresh = ∅ := fun op h => by
  simp only [List.mem_cons, List.not_mem_nil, or_false] at h
  rcases h with rfl | rfl | rfl | rfl <;> rfl

omit [FloatOps F] in
/-- The launch's unscoped buffers of the TensorCore are its seven arrays at their launch contents. -/
theorem unscoped_held (d : Dev nD) : (unscopedBufs d (fun b => m ((SparseCore.T d).loc b)) : sProp 𝕄) = held (T d) refs7 (V0 m d) := by
  rw [held_refs7]
  unfold unscopedBufs
  rw [show (Finset.univ.filter fun b : Ref sig .tc => ¬ b.isScoped) = {main_arg0, main_arg1, main_v1, main_v2, main_v3, main_v0, main_cst} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The seven arrays at the call. -/
theorem held_call (d : Dev nD) : (held (T d) refs7 (V1 m d) : sProp 𝕄) = iprop((idsLoc d ↦{fullShare} m (idsLoc d)) ∗ (tabLoc d ↦{fullShare} m (tabLoc d))
    ∗ tPts m d ∗ iPts m d ∗ oPts d (V1 m d (Proc.devRef .tc (main_v3 : Ref sig .tc)))
    ∗ ((SparseCore.T d).loc main_v0 ↦{fullShare} V1 m d (Proc.devRef .tc (main_v0 : Ref sig .tc)))
    ∗ (SparseCore.T d).loc main_cst ↦{fullShare} V1 m d (Proc.devRef .tc (main_cst : Ref sig .tc))) := by
  rw [held_refs7, V1_ids, V1_tab, V1_t, V1_i]

theorem st0_eq (d : Dev nD) : (bigSep Finset.univ fun c : Fin ((K (F := F)).nCore 0) => (P m).st 0 d c) = iprop(tPts m d ∗ iPts m d ∗ ∃ f, oPts d f) :=
  bigSep_univ_of_subsingleton (0 : Fin 1)
theorem dn0_eq (d : Dev nD) : (bigSep Finset.univ fun c : Fin ((K (F := F)).nCore 0) => (P m).dn 0 d c) = iprop(tPts m d ∗ iPts m d ∗ oPts d (res m d)) :=
  bigSep_univ_of_subsingleton (0 : Fin 1)

/-- What @main leaves the claim: the arguments at their launch contents, the result at the index's row. -/
abbrev FIN (d : Dev nD) : sProp 𝕄 :=
  iprop((idsLoc d ↦{fullShare} m (idsLoc d)) ∗ (tabLoc d ↦{fullShare} m (tabLoc d)) ∗ oPts d (res m d))

/-- @main on a device's TensorCore: the host operations, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d refs7 _ hostOps hostOps_sub hostOps_fresh (V0 m d)) $$ [Hb Hheld]
  · isplitl [Hb] <;> iassumption
  iintro ⟨Hb, Hheld⟩
  ihave Hh := (Entails.of_eq (held_call m d)) $$ Hheld
  icases Hh with ⟨Hids, Htab, Ht, Hi, Ho, -, -⟩
  simp only [wp_bind, wp_pure]
  iapply ((K (F := F)).wp_run (D (F := F)) 𝒱 (EH := EH) (P := P m) κ d 0) $$ [Hst Hids Htab Ht Hi Ho Hb Hts]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [Hids]; · iexact Hids
    isplitl [Htab]; · iexact Htab
    iexact Ho
  isplitl [Hb] <;> iassumption

/-! ## The program's run -/

/-- What a final memory says of one device: the arguments are as they were, the result is the index's row. -/
def fq (d : Dev nD) (s' : Phys nD τ sig (Elt F)) : Prop :=
  s'.mem.mem (idsLoc d) = m (idsLoc d) ∧ s'.mem.mem (tabLoc d) = m (tabLoc d) ∧ s'.mem.mem (oLoc d) = res m d

theorem hfin (d : Dev nD) (s' : Phys nD τ sig (Elt F)) : iprop(FIN m d ∗ SI s') ⊢ (⌜fq m d s'⌝ : sProp 𝕄) := by
  iintro ⟨⟨Hids, Htab, Ho⟩, HSI⟩
  icombine HSI Hids gives %hi
  icombine HSI Htab gives %ht
  icombine HSI Ho gives %ho
  ipureintro
  exact ⟨funext fun i => hi i (Finset.mem_univ i), funext fun i => ht i (Finset.mem_univ i), funext fun i => ho i (Finset.mem_univ i)⟩

/-- What the run ends in: every device's arguments unchanged and result at its row, every counter at zero. -/
def QC : PUnit × MemSt nD τ sig (Elt F) → Prop := fun r =>
  (∀ d : Dev nD, r.2.mem (idsLoc d) = m (idsLoc d) ∧ r.2.mem (tabLoc d) = m (tabLoc d) ∧ r.2.mem (oLoc d) = res m d) ∧ r.2.sem = fun _ => 0

/-- The program's run, for any float values: from a memory whose first index lies in the table, every weakly fair execution
    terminates with the arguments unchanged, the result at the index's row and every semaphore counter at zero. -/
theorem run_main [∀ e, Nonempty (Elt F e)] (hm : ∀ d, (idt m d (ix2 0 0) : BitVec 32).toNat ≤ 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hm)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  What both programs compute. `row ids tab` is the row of the table that the first index names. The value the kernel's run
  ends with is that row: padding and transposing the table and transposing the indices only move elements. The value the
  reference's run ends with is the same row: with the first index in range nothing is wrapped, clamped or masked there.
  The precondition, read back, is that range.
-/
module

public import proofs.«01_k».proof.Proof.Launch
public import proofs.«01_k».proof.Proof.Gen.ReferenceIdeal
public import proofs.«01_k».proof.Proof.Gen.Pre_first_id_in_range
public import Idealize.ShloMosaic.Lib.KernelVsHost
public import Idealize.ShloMosaic.Lib.ReduceAll
public import Idealize.ShloMosaic.Lib.Pointwise.Reshape

@[expose] public section

noncomputable section

namespace Cert.Proof.Lookup

open Idealize.ShloMosaic Idealize.SL.Sem

variable {F : FTy → Type} [FloatOps F]

/-- The row of the table at the first of the indices. -/
def row {α : Type} (ids : (⟨2, ![4096, 50]⟩ : Shape).Idx → BitVec 32) (tab : (⟨2, ![1000001, 16]⟩ : Shape).Idx → α) : (⟨1, ![16]⟩ : Shape).Idx → α :=
  fun j => tab (ix2 (Fin.ofNat 1000001 (ids (ix2 0 0)).toNat) (j 0))

/-! ## The kernel's result -/

/-- The first of the transposed indices is the first of the indices. -/
theorem idt_first (m : (ℓ : Loc KernelIdeal.nD KernelIdeal.τ KernelIdeal.sig) → Buf (Elt F) ℓ) (d : Dev KernelIdeal.nD) :
    idt m d (ix2 0 0) = (m (idsLoc d) : KernelIdeal.S4096x50.Idx → BitVec 32) (ix2 0 0) := by
  unfold idt transpose
  refine congrArg (m (idsLoc d) : KernelIdeal.S4096x50.Idx → BitVec 32) (funext fun a => ?_)
  match a with
  | ⟨0, _⟩ => rfl
  | ⟨1, _⟩ => rfl

/-- The result of the kernel's run is the row of the table at the first index, when that index lies in the table. -/
theorem res_eq (m : (ℓ : Loc KernelIdeal.nD KernelIdeal.τ KernelIdeal.sig) → Buf (Elt F) ℓ) (d : Dev KernelIdeal.nD)
    (hv : ((m (idsLoc d) : KernelIdeal.S4096x50.Idx → BitVec 32) (ix2 0 0)).toNat ≤ 1000000) :
    res m d = row (m (idsLoc d) : KernelIdeal.S4096x50.Idx → BitVec 32) (m (tabLoc d) : KernelIdeal.S1000001x16.Idx → Elt F .f32) := by
  unfold res pick row
  rw [idt_first]
  generalize (m (idsLoc d) : KernelIdeal.S4096x50.Idx → BitVec 32) (ix2 0 0) = v at hv ⊢
  funext j
  unfold tbl
  have h1 : (Fin.ofNat 1000064 v.toNat).val = v.toNat := Nat.mod_eq_of_lt (by omega)
  have h2 : (Fin.ofNat 1000001 v.toNat).val = v.toNat := Nat.mod_eq_of_lt (by omega)
  refine (pad_apply_of_inside _ _ _ _ _ _ _ _ (ix2 (j 0) (Fin.ofNat 1000001 v.toNat)) ?_).trans ?_
  · intro a
    match a with
    | ⟨0, _⟩ => show (j 0).val = 0 + (j 0).val * (0 + 1); omega
    | ⟨1, _⟩ => show (Fin.ofNat 1000064 v.toNat).val = 0 + (Fin.ofNat 1000001 v.toNat).val * (0 + 1); omega
  · unfold transpose
    refine congrArg (m (tabLoc d) : KernelIdeal.S1000001x16.Idx → Elt F .f32) (funext fun a => ?_)
    match a with
    | ⟨0, _⟩ => rfl
    | ⟨1, _⟩ => rfl

/-! ## The precondition -/

/-- A word lies between 0 and 1000000, read signed, exactly when its value is at most 1000000. -/
theorem signed_range (v : BitVec 32) : ((0#32).sle v = true ∧ v.sle 1000000#32 = true) ↔ v.toNat ≤ 1000000 := by
  simp only [BitVec.sle, decide_eq_true_eq, BitVec.toInt_eq_toNat_cond, BitVec.toNat_ofNat]
  omega

/-- The precondition says that the first index lies in the table. -/
theorem range_of_pre (ids : IVec Pre_first_id_in_range.S4096x50 32) (tab : FVec F Pre_first_id_in_range.S1000001x16 .f32)
    (h : Pre_first_id_in_range.fn (F := F) ids tab = fun _ => 1#1) : (ids (ix2 0 0)).toNat ≤ 1000000 := by
  have h0 := congrFun h ix0
  have hx : ∀ (hs : Pre_first_id_in_range.S4096x50.Slices ![0, 0] Pre_first_id_in_range.S1x1)
      (hc : Pre_first_id_in_range.S1x1.ShapeCasts Pre_first_id_in_range.S_),
      shapeCast Pre_first_id_in_range.S_ (extractStridedSlice Pre_first_id_in_range.S1x1 ![0, 0] ids hs) hc ix0 = ids (ix2 0 0) := by
    intro hs hc
    unfold shapeCast extractStridedSlice
    refine congrArg ids (funext fun a => Fin.ext ?_)
    match a with
    | ⟨0, _⟩ => exact (Nat.zero_add _).trans (Nat.lt_one_iff.mp ((Shape.reshapeEquiv hc ix0) 0).isLt)
    | ⟨1, _⟩ => exact (Nat.zero_add _).trans (Nat.lt_one_iff.mp ((Shape.reshapeEquiv hc ix0) 1).isLt)
  obtain ⟨ha, hb⟩ := IntOp.andi_eq_one.1 h0
  simp only [cmpi, hx, constantI] at ha hb
  revert ha hb
  generalize ids (ix2 0 0) = v
  intro ha hb
  have ha' : (0#32).sle v = true := by
    revert ha; simp only [IntOp.cmpi]; cases (0#32).sle v <;> simp
  have hb' : v.sle 1000000#32 = true := by
    revert hb; simp only [IntOp.cmpi]; cases v.sle 1000000#32 <;> simp
  exact (signed_range v).1 ⟨ha', hb'⟩

/-! ## The reference's result -/

section Ref
open ReferenceIdeal ReferenceIdeal.Gen

/-- The reference's indices, a negative one counted from the table's end. -/
def wrapped (ids : IVec S4096x50 32) : IVec S4096x50 32 :=
  select (cmpi .slt ids (broadcastInDim S4096x50 ![] bcast_S_S4096x50 (constantI S_ 32 0#32))) (addi ids (broadcastInDim S4096x50 ![] bcast_S_S4096x50 (constantI S_ 32 1000001#32))) ids
/-- The same, as the rows its gather starts at. -/
def starts (ids : IVec S4096x50 32) : IVec S4096x50x1 32 := broadcastInDim S4096x50x1 ![0, 1] bcast_S4096x50_S4096x50x1_0_1 (wrapped ids)
/-- Where an index lies in the table. -/
def inside (ids : IVec S4096x50 32) : IVec S4096x50 1 :=
  Host.reduce IntOp.andi (andi (cmpi .sge (starts ids) (broadcastInDim S4096x50x1 ![] bcast_S_S4096x50x1 (constantI S_ 32 0#32)))
    (cmpi .sle (starts ids) (broadcastInDim S4096x50x1 ![0, 1, 2] bcast_S1x1x1_S4096x50x1_0_1_2 (broadcastInDim S1x1x1 ![2] bcast_S1_S1x1x1_2 (constantI S1 32 1000000#32)))))
    (constantI S_ 1 1#1) reducesTo_S4096x50x1_S4096x50_d2 h_S_
/-- The reference's result as its run leaves it: every row gathered, those of indices outside the table masked, the first taken. -/
def refOut (ids : IVec S4096x50 32) (tab : FVec F S1000001x16 .f32) : FVec F S16 .f32 :=
  shapeCast S16 (extractStridedSlice S1x1x16 ![0, 0, 0] (select (broadcastInDim S4096x50x16 ![0, 1] bcast_S4096x50_S4096x50x16_0_1 (inside ids))
    (Host.gather gather_S1000001x16_S4096x50x1_S4096x50x16_2_0_n_n_0_2_116 tab (starts ids))
    (broadcastInDim S4096x50x16 ![] bcast_S_S4096x50x16 (constant S_ .f32 0x7FC00000#32))) slices_S4096x50x16_S1x1x16_0_0_0) shapeCasts_S1x1x16_S16

variable {ids : IVec S4096x50 32} (hv : (ids (ix2 0 0)).toNat ≤ 1000000)
include hv

/-- An index in the table is not negative. -/
theorem first_wrapped : wrapped ids (ix2 0 0) = ids (ix2 0 0) := by
  have h : (ids (ix2 0 0)).slt 0#32 = false := by rw [BitVec.slt_zero_eq_msb, msb_small hv]
  show Scalar.select (IntOp.cmpi .slt (ids (ix2 0 0)) 0#32) _ _ = _
  rw [show IntOp.cmpi .slt (ids (ix2 0 0)) 0#32 = 0#1 by simp only [IntOp.cmpi, h]; rfl]
  rfl

theorem first_starts (i : S4096x50x1.Idx) (h0 : (i 0).val = 0) (h1 : (i 1).val = 0) : starts ids i = ids (ix2 0 0) := by
  rw [← first_wrapped hv]
  unfold starts broadcastInDim
  refine congrArg (wrapped ids) (funext fun a => Fin.ext ?_)
  match a with
  | ⟨0, _⟩ => exact h0
  | ⟨1, _⟩ => exact h1

theorem first_inside : inside ids (ix2 0 0) = 1#1 := by
  unfold inside
  rw [Host.reduce_eq_foldl]
  refine IntOp.foldl_andi_one _ _ _ rfl fun i hi => ?_
  have hd := of_decide_eq_true (List.mem_filter.mp hi).2
  have h := first_starts hv i (congrArg Fin.val (congrFun hd 0)) (congrArg Fin.val (congrFun hd 1))
  show IntOp.andi (IntOp.cmpi .sge (starts ids i) 0#32) (IntOp.cmpi .sle (starts ids i) 1000000#32) = 1#1
  rw [h]
  generalize ids (ix2 0 0) = v at hv ⊢
  obtain ⟨ha, hb⟩ := (signed_range v).2 hv
  simp only [IntOp.cmpi, ha, hb]
  rfl

/-- The gathered row of the first index is the table's row there. -/
theorem first_gather (tab : FVec F S1000001x16 .f32) (k : S4096x50x16.Idx) (h0 : (k 0).val = 0) (h1 : (k 1).val = 0) :
    Host.gather gather_S1000001x16_S4096x50x1_S4096x50x16_2_0_n_n_0_2_116 tab (starts ids) k
      = tab (ix2 (Fin.ofNat 1000001 (ids (ix2 0 0)).toNat) (k 2)) := by
  unfold Host.gather
  refine congrArg tab (funext fun a => Fin.ext ?_)
  generalize hD : gather_S1000001x16_S4096x50x1_S4096x50x16_2_0_n_n_0_2_116 = D
  show D.start k (starts ids) a + D.batchCoord k a + D.offCoord k a = _
  subst hD
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨0, Nat.two_pos⟩ : Fin S1000001x16.rank) ∈ gather_S1000001x16_S4096x50x1_S4096x50x16_2_0_n_n_0_2_116.startIndexMap from
      List.mem_singleton.mpr rfl), first_starts hv _ h0 h1]
    generalize ids (ix2 0 0) = v at hv ⊢
    show min v.toInt.toNat 1000000 + 0 + 0 = (Fin.ofNat 1000001 v.toNat).val
    have h2 : (Fin.ofNat 1000001 v.toNat).val = v.toNat := Nat.mod_eq_of_lt (by omega)
    have h3 : v.toInt = v.toNat := by rw [BitVec.toInt_eq_toNat_cond]; omega
    omega
  | ⟨1, _⟩ =>
    rw [GatherDims.batchCoord_eq_zero _ _ _ List.not_mem_nil]
    unfold GatherDims.start
    rw [dif_neg (show (⟨1, Nat.one_lt_two⟩ : Fin S1000001x16.rank) ∉ gather_S1000001x16_S4096x50x1_S4096x50x16_2_0_n_n_0_2_116.startIndexMap from
      fun h => absurd (congrArg Fin.val (List.mem_singleton.mp h)) Nat.one_ne_zero)]
    exact (congrArg (· + _) (Nat.add_zero 0)).trans (Nat.zero_add _)

/-- The reference's result is the row of the table at the first index, when that index lies in the table. -/
theorem refOut_eq (tab : FVec F S1000001x16 .f32) : refOut ids tab = row ids tab := by
  funext j
  have hk : ∀ a : Fin 3, (Shape.reshapeEquiv shapeCasts_S1x1x16_S16 j a).val = (ix3 (0 : Fin 1) (0 : Fin 1) (j 0) a).val := by
    intro a
    simp only [pointwise]
  have hs : refOut ids tab j = (select (broadcastInDim S4096x50x16 ![0, 1] bcast_S4096x50_S4096x50x16_0_1 (inside ids))
      (Host.gather gather_S1000001x16_S4096x50x1_S4096x50x16_2_0_n_n_0_2_116 tab (starts ids))
      (broadcastInDim S4096x50x16 ![] bcast_S_S4096x50x16 (constant S_ .f32 0x7FC00000#32)) : FVec F S4096x50x16 .f32) (ix3 0 0 (j 0)) := by
    unfold refOut shapeCast extractStridedSlice
    refine congrArg (select _ _ _ : FVec F S4096x50x16 .f32) (funext fun a => Fin.ext ?_)
    match a with
    | ⟨0, _⟩ => exact (Nat.zero_add _).trans (hk 0)
    | ⟨1, _⟩ => exact (Nat.zero_add _).trans (hk 1)
    | ⟨2, _⟩ => exact (Nat.zero_add _).trans (hk 2)
  have hb : (broadcastInDim S4096x50x16 ![0, 1] bcast_S4096x50_S4096x50x16_0_1 (inside ids) : IVec S4096x50x16 1) (ix3 0 0 (j 0)) = 1#1 := by
    rw [← first_inside hv]
    unfold broadcastInDim
    refine congrArg (inside ids) (funext fun a => Fin.ext ?_)
    match a with
    | ⟨0, _⟩ => rfl
    | ⟨1, _⟩ => rfl
  refine hs.trans ?_
  show Scalar.select _ _ _ = _
  rw [hb, first_gather hv tab _ rfl rfl]
  rfl

end Ref

end Cert.Proof.Lookup

end
-- ==== Proof.lean ====
/-
  The proof of every claim of Defs.lean about the lookup kernel. The frames: each program terminates with its arguments
  unchanged and every semaphore counter at zero. The values: the kernel's result equals the reference's, at ideal values
  and on bits, whenever the first index lies in the table. Proof/Index.lean has the arithmetic of the index,
  Proof/Body.lean the run of the kernel's body, Proof/Launch.lean the run of the whole program around it, and
  Proof/Value.lean the equality of the row that the kernel reads with the row that the reference takes.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_first_id_in_range
public import proofs.«01_k».proof.Proof.Value
public import Idealize.ShloMosaic.Adequacy
public import Idealize.ShloMosaic.Init

@[expose] public section

noncomputable section

namespace Cert.Proof

open Idealize.ShloMosaic Idealize.SL.Sem Cert.Proof.Lookup

/-! ## The frames

The kernel as printed and the kernel read for ideal values have the same text, so the one run of Proof/Launch.lean, which
holds for any float values, is the run of both. -/

/-- From any memory of which the precondition holds, the kernel as printed terminates with its two arguments unchanged and
    every semaphore counter at zero. -/
theorem frame_kernel : Cert.quiescent_Kernel := fun m ρ hp =>
  (θ_run Cert.KernelIdeal.defs _ _).mono (fun _ h => ⟨fun c => ⟨(h.1 c).1, (h.1 c).2.1⟩, h.2⟩)
    (run_main (F := Bits) m ρ fun d => (congrArg BitVec.toNat (idt_first m d)).trans_le (range_of_pre _ _ (hp d)))

/-- The same of the kernel at ideal values. -/
theorem frame_kernelIdeal : Cert.quiescent_KernelIdeal := fun m ρ hp =>
  (θ_run Cert.KernelIdeal.defs _ _).mono (fun _ h => ⟨fun c => ⟨(h.1 c).1, (h.1 c).2.1⟩, h.2⟩)
    (run_main (F := Ideal) m ρ fun d => (congrArg BitVec.toNat (idt_first m d)).trans_le (range_of_pre _ _ (hp d)))

/-- From any memory the reference at ideal values terminates with its arguments unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference as printed. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- At ideal values the kernel and the reference end with equal results: the table's row at the first index. -/
theorem algebraic : Cert.algebraic_KernelIdeal_ReferenceIdeal := fun m ρ m' ρ' hp hagree =>
  have hv := fun c => range_of_pre _ _ (hp c)
  ⟨fun c => res (F := Ideal) m c,
    (θ_run Cert.KernelIdeal.defs _ _).mono (fun _ h c => ⟨(h.1 c).2.2, (h.1 c).1, (h.1 c).2.1⟩)
      (run_main (F := Ideal) m ρ fun d => (congrArg BitVec.toNat (idt_first m d)).trans_le (hv d)),
    (θ_run Cert.ReferenceIdeal.defs _ _).mono (fun _ h c => ⟨(h c).1.trans (by
        rw [(hagree c).1, (hagree c).2]
        exact (refOut_eq (F := Ideal) (hv c) _).trans (res_eq (F := Ideal) m c (hv c)).symm), (h c).2⟩)
      (Cert.ReferenceIdeal.Value.run (F := Ideal) m' ρ')⟩

/-- On bits the kernel and the reference, both as printed, end with equal results: the table's row at the first index. -/
theorem bitexact : Cert.bitexact_Kernel_Reference := fun m ρ m' ρ' hp hagree =>
  have hv := fun c => range_of_pre _ _ (hp c)
  ⟨fun c => res (F := Bits) m c,
    (θ_run Cert.KernelIdeal.defs _ _).mono (fun _ h c => ⟨(h.1 c).2.2, (h.1 c).1, (h.1 c).2.1⟩)
      (run_main (F := Bits) m ρ fun d => (congrArg BitVec.toNat (idt_first m d)).trans_le (hv d)),
    (θ_run Cert.Reference.defs _ _).mono (fun _ h c => ⟨(h c).1.trans (by
        rw [(hagree c).1, (hagree c).2]
        exact (refOut_eq (F := Bits) (hv c) _).trans (res_eq (F := Bits) m c (hv c)).symm), (h c).2⟩)
      (Cert.Reference.Value.run (F := Bits) m' ρ')⟩

/-- Every claim. -/
theorem claim : Cert.Claim :=
  ⟨Cert.Kernel.Gen.facts, Cert.KernelIdeal.Gen.facts, Cert.ReferenceIdeal.Gen.facts, Cert.Reference.Gen.facts, Cert.Pre_first_id_in_range.Gen.facts,
    frame_kernel, frame_kernelIdeal, frame_referenceIdeal, fun m ρ _ => frame_referenceIdeal m ρ trivial,
    frame_reference, fun m ρ _ => frame_reference m ρ trivial, trivial, algebraic, bitexact⟩

end Cert.Proof

end
